-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_keeps_Kernel [hPre_pi_keeps_Kernel : Cert.Pre_pi_keeps_Kernel.Facts] (m : (ℓ : Loc Cert.Kernel.nD Cert.Kernel.τ Cert.Kernel.sig) → Buf (Elt Bits) ℓ) : Prop :=
  ∀ c : Dev Cert.Kernel.nD,
    (Cert.Pre_pi_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_keeps_Kernel [hPre_pi_keeps_Kernel : Cert.Pre_pi_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_keeps_ReferenceIdeal [hPre_pi_keeps_ReferenceIdeal : Cert.Pre_pi_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pi_swaps_ReferenceIdeal : Cert.Pre_pi_swaps_ReferenceIdeal.Facts] (m : (ℓ : Loc Cert.Reference.nD Cert.Reference.τ Cert.Reference.sig) → Buf (Elt Bits) ℓ) : Prop :=
  ∀ c : Dev Cert.Reference.nD,
    (Cert.Pre_pi_swaps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_pi_keeps_ReferenceIdeal [hPre_pi_keeps_ReferenceIdeal : Cert.Pre_pi_keeps_ReferenceIdeal.Facts] (m : (ℓ : Loc Cert.Reference.nD Cert.Reference.τ Cert.Reference.sig) → Buf (Elt Bits) ℓ) : Prop :=
  ∀ c : Dev Cert.Reference.nD,
    (Cert.Pre_pi_keeps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_keeps_Kernel [hKernel : Cert.Kernel.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg), Pre_Kernel_pi_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_keeps_Kernel [hKernelIdeal : Cert.KernelIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_keeps_ReferenceIdeal [hReferenceIdeal : Cert.ReferenceIdeal.Facts] [hPre_pi_keeps_ReferenceIdeal : Cert.Pre_pi_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pi_swaps_ReferenceIdeal : Cert.Pre_pi_swaps_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_pi_keeps_ReferenceIdeal [hReference : Cert.Reference.Facts] [hPre_pi_keeps_ReferenceIdeal : Cert.Pre_pi_keeps_ReferenceIdeal.Facts] : Prop :=
  ∀ (m : (ℓ : Loc Cert.Reference.nD Cert.Reference.τ Cert.Reference.sig) → Buf (Elt Bits) ℓ) (g : Dev Cert.Reference.nD → PrngReg), Pre_Reference_pi_keeps_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_keeps_Kernel [hKernelIdeal : Cert.KernelIdeal.Facts] [hReferenceIdeal : Cert.ReferenceIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_keeps_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 2048, 1024]⟩ ⟨3, ![2, 2048, 1024]⟩ (Layout.meshBlock [2, 2] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 2048, 1024]⟩ ⟨3, ![2, 2048, 1024]⟩ (Layout.meshBlock [2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_pi_keeps_Kernel [hKernel : Cert.Kernel.Facts] [hReference : Cert.Reference.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_pi_keeps_Kernel m →
    (∀ c : Dev Cert.Kernel.nD,
      m ((c.tc : Thread Cert.Kernel.nD Cert.Kernel.τ).loc Cert.Kernel.main_arg0) = Layout.blockN ⟨3, ![1, 2048, 1024]⟩ ⟨3, ![2, 2048, 1024]⟩ (Layout.meshBlock [2, 2] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 2048, 1024]⟩ ⟨3, ![2, 2048, 1024]⟩ (Layout.meshBlock [2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_pi_swaps_Kernel : Cert.Pre_pi_swaps_Kernel.Facts) (hPre_pi_keeps_Kernel : Cert.Pre_pi_keeps_Kernel.Facts) (hPre_pi_swaps_ReferenceIdeal : Cert.Pre_pi_swaps_ReferenceIdeal.Facts) (hPre_pi_keeps_ReferenceIdeal : Cert.Pre_pi_keeps_ReferenceIdeal.Facts),
    quiescent_Kernel (hKernel := hKernel) (hPre_pi_swaps_Kernel := hPre_pi_swaps_Kernel)
    ∧ quiescent_Kernel_pre_pi_keeps_Kernel (hKernel := hKernel) (hPre_pi_keeps_Kernel := hPre_pi_keeps_Kernel)
    ∧ quiescent_KernelIdeal (hKernelIdeal := hKernelIdeal) (hPre_pi_swaps_Kernel := hPre_pi_swaps_Kernel)
    ∧ quiescent_KernelIdeal_pre_pi_keeps_Kernel (hKernelIdeal := hKernelIdeal) (hPre_pi_keeps_Kernel := hPre_pi_keeps_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_keeps_ReferenceIdeal (hReferenceIdeal := hReferenceIdeal) (hPre_pi_keeps_ReferenceIdeal := hPre_pi_keeps_ReferenceIdeal)
    ∧ quiescent_Reference (hReference := hReference) (hPre_pi_swaps_ReferenceIdeal := hPre_pi_swaps_ReferenceIdeal)
    ∧ quiescent_Reference_pre_pi_keeps_ReferenceIdeal (hReference := hReference) (hPre_pi_keeps_ReferenceIdeal := hPre_pi_keeps_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_keeps_Kernel (hKernelIdeal := hKernelIdeal) (hReferenceIdeal := hReferenceIdeal) (hPre_pi_keeps_Kernel := hPre_pi_keeps_Kernel)
    ∧ bitexact_Kernel_Reference (hKernel := hKernel) (hReference := hReference) (hPre_pi_swaps_Kernel := hPre_pi_swaps_Kernel)
    ∧ bitexact_Kernel_Reference_pre_pi_keeps_Kernel (hKernel := hKernel) (hReference := hReference) (hPre_pi_keeps_Kernel := hPre_pi_keeps_Kernel)
-- ==== Pre_pi_keeps_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_keeps_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_swaps_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_pi_swaps_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .f32⟩
  | .local _ .smem, ⟨0, _⟩ => ⟨S2, .i32⟩
  | _, _ => ⟨S1x2048x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) (v7 : BitVec 32) (v8 : BitVec 32) : Nat :=
  let c0_i32_6 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v17 : BitVec 32 := Scalar.muli v2 c2_i32_5
  let v18 : BitVec 32 := Scalar.addi c0_i32_6 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v6 : BitVec 1 := Scalar.cmpi .eq v5 c0_i32
  let v9 : BitVec 32 := Scalar.select v6 v7 v8
  let c1_i32_7 : BitVec 32 := 1#32
  let v19 : BitVec 32 := Scalar.muli v9 c1_i32_7
  let v20 : BitVec 32 := Scalar.addi v18 v19
  v20.toNat
def k0_cond2 (d0 : Dev nD) (v7 : BitVec 32) (v8 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v6 : BitVec 1 := Scalar.cmpi .eq v5 c0_i32
  let v9 : BitVec 32 := Scalar.select v6 v7 v8
  let v14 : BitVec 1 := Scalar.cmpi .ne v9 v5
  let v15 : BitVec 32 := Scalar.extui v14
  let c0_i32_3 : BitVec 32 := 0#32
  let v16 : BitVec 1 := Scalar.cmpi .ne v15 c0_i32_3
  v16

def k0_dev2 (d0 : Dev nD) (v7 : BitVec 32) (v8 : BitVec 32) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v21 : BitVec 32 := Scalar.muli v2 c2_i32_9
  let v22 : BitVec 32 := Scalar.addi c0_i32_10 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32 : BitVec 32 := 0#32
  let v6 : BitVec 1 := Scalar.cmpi .eq v5 c0_i32
  let v9 : BitVec 32 := Scalar.select v6 v7 v8
  let c1_i32_11 : BitVec 32 := 1#32
  let v23 : BitVec 32 := Scalar.muli v9 c1_i32_11
  let v24 : BitVec 32 := Scalar.addi v22 v23
  v24.toNat

def k0_chk1 (d0 : Dev nD) (v7 : BitVec 32) (v8 : BitVec 32) : Prop :=
  (∀ (k0_h2 : k0_cond2 d0 v7 v8 = 1#1), (k0_dev1 d0 v7 v8) < nD) ∧
  (∀ (k0_h2 : k0_cond2 d0 v7 v8 = 1#1), (k0_dev2 d0 v7 v8) < nD)
theorem k0_dev1_lt : ∀ (d0 : Dev nD) (v7 : BitVec 32) (v8 : BitVec 32) (k0_hw1 : k0_chk1 d0 v7 v8), ∀ (k0_h2 : k0_cond2 d0 v7 v8 = 1#1), (k0_dev1 d0 v7 v8) < nD := fun d0 v7 v8 k0_hw1 k0_h2 => k0_hw1.1 k0_h2
theorem k0_dev2_lt : ∀ (d0 : Dev nD) (v7 : BitVec 32) (v8 : BitVec 32) (k0_hw1 : k0_chk1 d0 v7 v8), ∀ (k0_h2 : k0_cond2 d0 v7 v8 = 1#1), (k0_dev2 d0 v7 v8) < nD := fun d0 v7 v8 k0_hw1 k0_h2 => k0_hw1.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Words.lean ====
/-
The arithmetic of the 2×2 mesh, and what the two words of a permutation table make the kernel's scalar chains compute.

Device `2 * i + j` sits in row `i`, column `j`. A table says of the two columns whether their blocks change places (`true`)
or stay (`false`). Every fact here is about four devices and two tables, so each is settled by running through them.
-/
module

public import proofs.«01_k».proof.Proof.Gen.KernelIdeal
public import proofs.«01_k».proof.Proof.Gen.KernelIdeal.Skeleton

@[expose] public section

noncomputable section

namespace Cert.RowSwap

open Cert.KernelIdeal Cert.KernelIdeal.Gen
open Idealize.ShloMosaic

/-! ## The devices of a row -/

set_option backward.proofsInPublic true in
/-- The other device of `c`'s row. -/
def mate (c : Dev nD) : Dev nD := ⟨2 * (c.val / 2) + (c.val + 1) % 2, by have := c.isLt; simp only [nD] at *; omega⟩

/-- A row has two devices: the mate's mate is the device itself. -/
theorem mate_mate (c : Dev nD) : mate (mate c) = c := by revert c; decide

/-- The exchange of the two devices of every row, as a permutation of the devices. -/
def mates : Dev nD ≃ Dev nD := ⟨mate, mate, mate_mate, mate_mate⟩

/-- Whose block ends up on device `c`: its mate's if the columns change places, its own if they stay. -/
def origin (sw : Bool) (c : Dev nD) : Dev nD := if sw then mate c else c

/-! ## The table's words -/

/-- The table's first word: the column that column 0's block goes to. -/
abbrev word0 (sw : Bool) : BitVec 32 := if sw then 1#32 else 0#32
/-- The table's second word: the column that column 1's block goes to. -/
abbrev word1 (sw : Bool) : BitVec 32 := if sw then 0#32 else 1#32

/-- The word naming the destination column on device `c`, as the kernel selects it. -/
abbrev destWord (sw : Bool) (c : Dev nD) : BitVec 32 :=
  Scalar.select (Scalar.cmpi .eq (Scalar.remsi (Scalar.divsi (Dev.word c) 1#32) 2#32) 0#32) (word0 sw) (word1 sw)

/-- The kernel's first condition on device `c`: is the destination column its own? -/
abbrev stayBit (sw : Bool) (c : Dev nD) : BitVec 1 :=
  Scalar.cmpi .ne (Scalar.extui (Scalar.cmpi .eq (destWord sw c) (Scalar.remsi (Scalar.divsi (Dev.word c) 1#32) 2#32)) : BitVec 32) 0#32

/-- Under an exchanging table no device stays, -/
theorem stayBit_swap (c : Dev nD) : ¬ stayBit true c = 1#1 := by revert c; decide
/-- and under a keeping table every device does. -/
theorem stayBit_keep (c : Dev nD) : stayBit false c = 1#1 := by revert c; decide

/-- Under an exchanging table every device sends, -/
theorem sends_swap (c : Dev nD) : k0_cond2 c (word0 true) (word1 true) = 1#1 := by revert c; decide
/-- and under a keeping table none does. -/
theorem sends_keep (c : Dev nD) : ¬ k0_cond2 c (word0 false) (word1 false) = 1#1 := by revert c; decide

/-- The kernel's check of the devices it addresses holds under both tables. -/
theorem chk (sw : Bool) (c : Dev nD) : k0_chk1 c (word0 sw) (word1 sw) := by revert sw c; decide

/-- The signalled device is the mate. -/
theorem dev1_mate (c : Dev nD) (h) : (⟨k0_dev1 c (word0 true) (word1 true), h⟩ : Dev nD) = mate c :=
  Fin.ext (by revert c; decide)
/-- The device sent to is the mate. -/
theorem dev2_mate (c : Dev nD) (h) : (⟨k0_dev2 c (word0 true) (word1 true), h⟩ : Dev nD) = mate c :=
  Fin.ext (by revert c; decide)

/-! ## A table in memory -/

/-- The index of word `k` of the table. -/
def wordIdx (k : Fin 2) : S2.Idx := fun a => ⟨k.val, by fin_cases a; exact k.isLt⟩

/-- The table `t` holds the two words: it exchanges the columns (`sw = true`) or keeps them (`sw = false`). -/
def Says (sw : Bool) (t : IVec S2 32) : Prop := t (wordIdx 0) = word0 sw ∧ t (wordIdx 1) = word1 sw

end Cert.RowSwap

end
-- ==== Proof.Protocol.lean ====
/-
The kernel's synchronisation, for both kinds of table at once.

Every device has four semaphores that matter: its barrier (the runtime's, outliving the launch), and three DMA semaphores
of the launch — one completes a transfer at its sender, one at its receiver, one completes a copy within the device. They
are numbered 0 to 3 here, and a CELL is a device with one of the numbers. Each cell has at most one payment in its
life, always of its whole expected amount:

* exchanging table: the barrier is paid by the row mate's signal, which hands over the mate's result array and the
  fact that the mate's receive cell is open — exactly what writing the mate's array needs —; the send cell is paid by
  the device's own transfer and gives its input back; the receive cell is paid by the mate's transfer and hands the
  device its own result array, now holding the mate's block; nothing pays the copy cell.
* keeping table: the copy cell is paid by the device's own copy, which hands back input and result, the result
  holding the device's block; nothing pays the other three.

A cell that nothing pays is closed as it was opened, so the four counters are at zero at the end in both cases.
-/
module

public import proofs.«01_k».proof.Proof.Words
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RowSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: one copy of the rounds algebra for the pipeline, one for the kernel's cells -/

/-- The ghost state: the library's rounds for the table's staging, and the protocol's own. -/
abbrev UU : Type := UR sig nD τ × UR sig nD τ

local notation "𝕄" => MT nD τ sig Unit (Elt F) ℕ UU ℕ

/-- The library's part of it, -/
abbrev EP : Emb (UR sig nD τ) (MT nD τ sig Unit (Elt F) ℕ UU ℕ) := embL
/-- and the protocol's. -/
abbrev ER : Emb (UR sig nD τ) (MT nD τ sig Unit (Elt F) ℕ UU ℕ) := embR

variable (sw : Bool) (m : (ℓ : Loc nD τ sig) → Buf (Elt F) ℓ)

/-! ## Cells -/

/-- The barrier semaphore of the kernel's collective. -/
abbrev barS : Sem sig := (SemArray.scalar (sig.barrier 0 rfl) : Sems sig S_).sem
/-- Completes a transfer at its sender; -/
abbrev sendS : DmaSem sig := (cc0_scratch0 : DmaSems sig S_).sem
/-- at its receiver; -/
abbrev recvS : DmaSem sig := (cc0_scratch1 : DmaSems sig S_).sem
/-- completes a copy within the device. -/
abbrev copyS : DmaSem sig := (cc0_scratch2 : DmaSems sig S_).sem

/-- The four semaphores by number. -/
abbrev slot : Fin 4 → SemLoc sig
  | 0 => .reg barS
  | 1 => .dma sendS
  | 2 => .dma recvS
  | 3 => .dma copyS

/-- Device `c`'s cell number `k`. -/
abbrev cell (c : Dev nD) (k : Fin 4) : GSem nD τ sig := ((c : Thread nD τ), slot k)

/-- The number of a semaphore (3 for one that is none of the four). -/
def num (s : SemLoc sig) : Fin 4 := if s = slot 0 then 0 else if s = slot 1 then 1 else if s = slot 2 then 2 else 3

/-- The number of a device's `k`-th cell is `k`. -/
theorem num_slot (k : Fin 4) : num (slot k) = k := by revert k; decide

/-- Cells of different numbers are different, -/
theorem slot_inj {k k' : Fin 4} (h : slot k = slot k') : k = k' := by rw [← num_slot k, h, num_slot]

/-- and so are cells of different devices. -/
theorem cell_inj {c c' : Dev nD} {k k' : Fin 4} (h : cell c k = cell c' k') : c = c' ∧ k = k' :=
  ⟨congrArg (fun g : GSem nD τ sig => g.1.1) h, slot_inj (congrArg Prod.snd h)⟩

/-- Who pays device `c`'s cell number `k` (and, equally, on which device the cell of that number that `c` pays lies):
    the mate for the barrier and the receive cell, the device itself for the other two. -/
def payer (k : Fin 4) : Dev nD ≃ Dev nD := if k = 0 ∨ k = 2 then mates else Equiv.refl _

/-- From each cell's device to the device that pays the cell, all cells at once. -/
def payers : Dev nD × Fin 4 ≃ Dev nD × Fin 4 where
  toFun ck := (payer ck.2 ck.1, ck.2)
  invFun ck := ((payer ck.2).symm ck.1, ck.2)
  left_inv ck := Prod.ext ((payer ck.2).symm_apply_apply ck.1) rfl
  right_inv ck := Prod.ext ((payer ck.2).apply_symm_apply ck.1) rfl

/-- Is a cell of this number paid under the table? -/
def paid : Fin 4 → Bool
  | 3 => !sw
  | _ => sw

/-! ## Contents and points-tos -/

/-- The input array, as the body names it, -/
abbrev xM : Memref sig .tc .hbm S1x2048x1024 .f32 := Memref.whole main_arg0
/-- and the result array. -/
abbrev oM : Memref sig .tc .hbm S1x2048x1024 .f32 := Memref.whole main_v1

/-- A transfer's credit: one block. -/
abbrev N : ℕ := (oM : Memref sig .tc .hbm S1x2048x1024 .f32).view.dmaCredit
/-- A block is not empty. -/
theorem N_pos : 0 < N := View.dmaCredit_pos _ (by decide)

/-- An input array's credit is the result array's: they have one shape. -/
theorem credit_in : (xM : Memref sig .tc .hbm S1x2048x1024 .f32).view.dmaCredit = N := by unfold N View.dmaCredit; simp only [sig]

/-- Device `c`'s input block at launch. -/
def block (c : Dev nD) : FVec F S1x2048x1024 .f32 := m ((c : Thread nD τ).loc main_arg0)

/-- Device `c`'s input array, holding `f`. -/
def inPts (c : Dev nD) (f : Buf (Elt F) ((xM : Memref sig .tc .hbm S1x2048x1024 .f32).view.loc (c : Thread nD τ))) : sProp 𝕄 :=
  (xM : Memref sig .tc .hbm S1x2048x1024 .f32).view.loc (c : Thread nD τ) ↦[(xM : Memref sig .tc .hbm S1x2048x1024 .f32).view.set]{fullShare} f
/-- Device `c`'s result array, holding `f`. -/
def outPts (c : Dev nD) (f : Buf (Elt F) ((oM : Memref sig .tc .hbm S1x2048x1024 .f32).view.loc (c : Thread nD τ))) : sProp 𝕄 :=
  (oM : Memref sig .tc .hbm S1x2048x1024 .f32).view.loc (c : Thread nD τ) ↦[(oM : Memref sig .tc .hbm S1x2048x1024 .f32).view.set]{fullShare} f

omit [FloatOps F] in
/-- A device's input can be put into a cell, -/
instance inPts_storable (c : Dev nD) (f) : BI.Storable (upEmb : UEmb _ 𝕄) (inPts (F := F) c f) := by unfold inPts; infer_instance
omit [FloatOps F] in
/-- and so can its result array. -/
instance outPts_storable (c : Dev nD) (f) : BI.Storable (upEmb : UEmb _ 𝕄) (outPts (F := F) c f) := by unfold outPts; infer_instance

omit [FloatOps F] in
/-- The input array's points-to is that of the whole buffer, -/
theorem inPts_eq (c : Dev nD) (f : Buf (Elt F) ((c : Thread nD τ).loc main_arg0)) :
    inPts c f = (((c : Thread nD τ).loc main_arg0) ↦{fullShare} f : sProp 𝕄) := by unfold inPts; rw [View.set_whole]
omit [FloatOps F] in
/-- and so is the result array's. -/
theorem outPts_eq (c : Dev nD) (f : Buf (Elt F) ((c : Thread nD τ).loc main_v1)) :
    outPts c f = (((c : Thread nD τ).loc main_v1) ↦{fullShare} f : sProp 𝕄) := by unfold outPts; rw [View.set_whole]

omit [FloatOps F] in
/-- Writing a whole input block over a whole result array leaves the block. -/
theorem written (f : (main_v1 : Ref sig .tc).ty.Contents (Elt F)) (g : (main_arg0 : Ref sig .tc).ty.Contents (Elt F)) :
    (oM : Memref sig .tc .hbm S1x2048x1024 .f32).view.write (Elt F) f ((xM : Memref sig .tc .hbm S1x2048x1024 .f32).view.read (Elt F) g) Finset.univ = g := by
  show (View.whole main_v1).write (Elt F) f ((View.whole main_arg0).read (Elt F) g) Finset.univ = g
  rw [View.read_whole]
  exact View.write_whole_univ _ _ _

/-! ## The schedule of payments -/

/-- What the payment of device `c`'s cell number `k` hands the device. -/
def hand (k : Fin 4) (c : Dev nD) : sProp 𝕄 :=
  match k with
  | 0 => iprop((∃ f, outPts (mate c) f) ∗ reached ER (cell (mate c) 2) 0)
  | 1 => inPts c (block m c)
  | 2 => outPts c (block m (mate c))
  | 3 => iprop(outPts c (block m c) ∗ inPts c (block m c))

/-- How much it is: a unit for a barrier, a block's credit for the others. -/
def size (k : Fin 4) : ℕ := if k = 0 then 1 else N
/-- Every payment is of something. -/
theorem size_pos (k : Fin 4) : 0 < size k := by unfold size; split; exacts [Nat.one_pos, N_pos]

omit [FloatOps F] in
/-- What a payment hands over can be put into its cell, -/
instance hand_storable (k : Fin 4) (c : Dev nD) : BI.Storable (upEmb : UEmb _ 𝕄) (hand (F := F) m k c) := by
  fin_cases k <;> (unfold hand; infer_instance)

/-- One round, in which the paid cells have their one payment. -/
def sched : Rounds.Schedule (GSem nD τ sig) Unit 𝕄 where
  duties g r := if r = 0 ∧ g.1.2 = .tc ∧ slot (num g.2) = g.2 ∧ paid sw (num g.2) = true then {()} else ∅
  unitless _ := False
  amount g _ _ := size (num g.2)
  payload g _ _ := hand m (num g.2) g.1.1
  amount_pos g _ _ _ := size_pos _

omit [FloatOps F] in
/-- at every cell, round and duty. -/
instance sched_storable (g : GSem nD τ sig) (r : ℕ) (d : Unit) : BI.Storable (upEmb : UEmb _ 𝕄) ((sched (F := F) sw m).payload g r d) :=
  hand_storable m _ _

section Sched
variable (c : Dev nD) (k : Fin 4)

omit [FloatOps F] in
/-- A paid cell has one duty in its first round; -/
theorem duties_cell (h : paid sw k = true) : (sched (F := F) sw m).duties (cell c k) 0 = {()} := by
  dsimp only [sched]; exact if_pos ⟨rfl, rfl, by rw [num_slot], by rw [num_slot]; exact h⟩
omit [FloatOps F] in
/-- it is the unit. -/
theorem mem_duties (h : paid sw k = true) : () ∈ (sched (F := F) sw m).duties (cell c k) 0 := by
  rw [duties_cell sw m c k h]; exact Finset.mem_singleton_self _
omit [FloatOps F] in
/-- No cell is paid after the round, -/
theorem duties_after (g : GSem nD τ sig) : ∀ r, 0 + 1 ≤ r → (sched (F := F) sw m).duties g r = ∅ :=
  fun r hr => by dsimp only [sched]; exact if_neg fun h => by omega
omit [FloatOps F] in
/-- and an unpaid cell not in it either. -/
theorem duties_unpaid (h : paid sw k = false) : ∀ r, 0 ≤ r → (sched (F := F) sw m).duties (cell c k) r = ∅ :=
  fun r _ => by
    dsimp only [sched]; refine if_neg fun h' => ?_
    have := h'.2.2.2
    rw [num_slot, h] at this
    exact Bool.false_ne_true this
omit [FloatOps F] in
/-- Its amount is the cell's size, -/
theorem amount_cell : (sched (F := F) sw m).amount (cell c k) 0 () = size k := by dsimp only [sched]; rw [num_slot]
omit [FloatOps F] in
/-- its payload what the cell hands over, -/
theorem payload_cell : (sched (F := F) sw m).payload (cell c k) 0 () = hand m k c := by dsimp only [sched]; rw [num_slot]
omit [FloatOps F] in
/-- and the round expects that size in all. -/
theorem expect_cell (h : paid sw k = true) : (sched (F := F) sw m).expect (cell c k) 0 = size k := by
  unfold Schedule.expect Schedule.amountOf; rw [duties_cell sw m c k h, Finset.sum_singleton, amount_cell]
omit [FloatOps F] in
/-- The whole round of a paid cell hands over its one payment. -/
theorem rest_cell (h : paid sw k = true) :
    bigSep ((sched (F := F) sw m).duties (cell c k) 0 \ ∅) (fun d => (sched (F := F) sw m).payload (cell c k) 0 d) = hand m k c := by
  rw [Finset.sdiff_empty, duties_cell sw m c k h, bigSep_singleton, payload_cell]

end Sched

/-! ## Debts and levels -/

/-- What device `c` owes once it has signalled: its mate's receive credit. -/
abbrev owesRecv (c : Dev nD) : CellTallies nD τ sig Unit := tallyAt (cell (mate c) 2) () N
/-- What it owes at launch: that and the mate's barrier unit under an exchanging table, nothing under a keeping one. -/
def debt (c : Dev nD) : CellTallies nD τ sig Unit := if sw then owesRecv c + tallyAt (cell (mate c) 0) () 1 else 0

/-- Every TensorCore semaphore carries a level, -/
def L (g : GSem nD τ sig) : Finset Unit := if g.1.2 = .tc then {()} else ∅
/-- a barrier 1, a receive cell 2, all others 0: a device may wait on a cell below everything it owes. -/
def lv (g : GSem nD τ sig) (_ : Unit) : ℕ := if g.2 = slot 0 then 1 else if g.2 = slot 2 then 2 else 0

/-- Only the main cores' cells are levelled; -/
theorem L_of_ne (g : GSem nD τ sig) (h : g.1.2 ≠ .tc) : L g = ∅ := if_neg h
/-- each of those at the one index. -/
theorem L_tc (c : Dev nD) (s : SemLoc sig) : L ((c : Thread nD τ), s) = {()} := if_pos rfl
/-- The barrier's level is one, -/
theorem lv_bar (c : Dev nD) : lv (cell c 0) () = 1 := if_pos rfl
/-- and the receive cell's two. -/
theorem lv_recv (c : Dev nD) : lv (cell c 2) () = 2 := by
  unfold lv; rw [if_neg (fun h => absurd (slot_inj (k := 2) (k' := 0) h) (by decide)), if_pos rfl]

/-- A cell owed by one tally is the tally's. -/
theorem of_tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- All that is owed at launch lies on the mate's receive and barrier cells. -/
theorem of_debt_pos {c : Dev nD} {g : GSem nD τ sig} {u : Unit} (h : 0 < debt sw c g u) : g = cell (mate c) 2 ∨ g = cell (mate c) 0 := by
  unfold debt at h
  cases sw
  · exact absurd h (Nat.lt_irrefl 0)
  · rw [if_pos rfl, Pi.add_apply, Finsupp.add_apply] at h
    rcases Nat.pos_of_ne_zero (Nat.ne_of_gt h) |> Nat.add_pos_iff_pos_or_pos.mp with h | h
    · exact Or.inl (of_tallyAt_pos h)
    · exact Or.inr (of_tallyAt_pos h)

omit [FloatOps F] in
/-- A device may wait for its table's fetch under its launch debt and under none. -/
theorem mayWait_stage (c : Dev nD) (q : DmaSem sig) (hq : SemLoc.dma q ≠ slot 2) (O : CellTallies nD τ sig Unit) (hO : O = debt sw c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases of_debt_pos sw hg with rfl | rfl <;> exact Finset.mem_singleton_self _)
      (fun p hp => by
        rw [Finset.mem_singleton.mp hp]; dsimp only [lv]
        rw [if_neg (fun h => by cases h), if_neg hq])
      (fun g u hg => by
        rcases of_debt_pos sw hg with rfl | rfl
        · exact (lv_recv _).symm ▸ Nat.two_pos
        · exact (lv_bar _).symm ▸ Nat.one_pos)
  · rw [MayWait_zero]; iintro -; iempintro

omit [FloatOps F] in
/-- At its barrier a device may wait while it owes its mate's receive credit. -/
theorem mayWait_bar (c : Dev nD) : (levAts L lv : sProp 𝕄) ⊢ MayWait (c : Thread nD τ) (.reg barS) () (owesRecv c) :=
  MayOwe.of_cut (L := L) (lev := lv) 1 (fun p hp => by rw [Finset.mem_singleton.mp hp, L_tc]; exact Finset.mem_singleton_self _)
    (fun g u hg => by rw [of_tallyAt_pos hg, L_tc]; exact Finset.mem_singleton_self _)
    (fun p hp => by rw [Finset.mem_singleton.mp hp]; exact Nat.le_of_eq (lv_bar c))
    (fun g u hg => by rw [of_tallyAt_pos hg]; exact (lv_recv (mate c)).symm ▸ Nat.one_lt_two)

end Cert.RowSwap

end
-- ==== Proof.Body.lean ====
/-
The kernel body on one device, run through once: the table's two words are read, and then either the exchange with the row
mate takes place or the copy within the device, by what the words say. Either way the device ends with its input as it
was, its result array holding the block that belongs there, and its four cells closed at zero.
-/
module

public import proofs.«01_k».proof.Proof.Protocol
public import proofs.«01_k».proof.Proof.Gen.KernelIdeal.Points

@[expose] public section

noncomputable section

namespace Cert.RowSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ)

/-! ## The table, as the body reads it -/

/-- Device `c`'s table at launch. -/
def table (c : Dev nD) : IVec S2 32 := m ((c : Thread nD τ).loc main_arg1)

/-- The table as the pipeline stages it for the body. -/
def staged (c : Dev nD) : (cc0_stg0_0 : Ref sig .tc).ty.Contents (Elt F) :=
  (win0_0.blk (0 : Fin 1)).view.read (Elt F) (m ((c : Thread nD τ).loc main_arg1))

/-- The staged table, as the body reads it. -/
abbrev tM : Memref sig .tc .smem S2 .i32 := Memref.whole cc0_stg0_0
/-- The first word's place in it, -/
abbrev rect0 : Rect S2 := Rect.unit (s := S2) ![0] S1.size inb_S2_S1_0
/-- and the second's. -/
abbrev rect1 : Rect S2 := Rect.unit (s := S2) ![1] S1.size inb_S2_S1_1

/-- A one-element array has one index. -/
theorem idx_one (i : S1.Idx) : i = fun a => ⟨0, by fin_cases a; exact Nat.one_pos⟩ :=
  funext fun a => Fin.ext (by have := (i a).isLt; fin_cases a; exact Nat.lt_one_iff.mp this)

omit [FloatOps F] in
/-- The body's first load reads the table's first word, -/
theorem load0 (c : Dev nD) (h : Says sw (table m c)) (i : S1.Idx) :
    ((tM : Memref sig .tc .smem S2 .i32).access rect0 : View sig .tc _ _ _).read (Elt F) (staged m c) i = word0 sw := by
  refine Eq.trans ?_ h.1
  rw [idx_one i]
  show m ((c : Thread nD τ).loc main_arg1) _ = _
  exact congrArg _ (funext fun a => Fin.ext (by fin_cases a; rfl))
omit [FloatOps F] in
/-- the second the second. -/
theorem load1 (c : Dev nD) (h : Says sw (table m c)) (i : S1.Idx) :
    ((tM : Memref sig .tc .smem S2 .i32).access rect1 : View sig .tc _ _ _).read (Elt F) (staged m c) i = word1 sw := by
  refine Eq.trans ?_ h.2
  rw [idx_one i]
  show m ((c : Thread nD τ).loc main_arg1) _ = _
  exact congrArg _ (funext fun a => Fin.ext (by fin_cases a; rfl))

/-! ## What a device starts from and ends with -/

/-- The invariants of all cells, under the names they were opened at, and that every cell is at its round. -/
def records (K : Dev nD × Fin 4 → ℕ) : sProp 𝕄 :=
  iprop((bigSep Finset.univ fun ck : Dev nD × Fin 4 => cellInv ER (sched sw m) (K ck) (cell ck.1 ck.2))
    ∗ bigSep Finset.univ fun ck : Dev nD × Fin 4 => reached ER (cell ck.1 ck.2) 0)

omit [FloatOps F] in
/-- The records can be used again and again. -/
instance records_persistent (K : Dev nD × Fin 4 → ℕ) : BI.Persistent (records sw m K) := by unfold records; infer_instance

omit [FloatOps F] in
/-- One cell's invariant out of the records, -/
theorem inv_of_records (K : Dev nD × Fin 4 → ℕ) (c : Dev nD) (k : Fin 4) : records sw m K ⊢ cellInv ER (sched sw m) (K (c, k)) (cell c k) := by
  unfold records
  exact sep_elim_left.trans (bigSep_elim (Finset.mem_univ ((c, k) : Dev nD × Fin 4)))
omit [FloatOps F] in
/-- and its being at its round. -/
theorem reached_of_records (K : Dev nD × Fin 4 → ℕ) (c : Dev nD) (k : Fin 4) : records sw m K ⊢ reached ER (cell c k) 0 := by
  unfold records
  exact sep_elim_right.trans (bigSep_elim (Finset.mem_univ ((c, k) : Dev nD × Fin 4)))

/-- Device `c`'s positions at its own four cells, and its rights to pay the four it pays. -/
def holdings (c : Dev nD) : sProp 𝕄 :=
  iprop((bigSep Finset.univ fun k : Fin 4 => atPos ER (cell c k) 0 ∅ 0) ∗ bigSep Finset.univ fun k : Fin 4 => dutyTok ER (cell (payer k c) k) 0 ())

/-- The credit others owe device `c`: under an exchanging table its barrier's unit and its receive cell's credit. -/
def credits (c : Dev nD) : sProp 𝕄 := if sw then iprop(cred (tallyAt (cell c 0) () 1) ∗ cred (tallyAt (cell c 2) () N)) else iprop(emp)

omit [FloatOps F] in
/-- Under an exchanging table, those two. -/
theorem credits_swap (c : Dev nD) : (credits true c : sProp 𝕄) = iprop(cred (tallyAt (cell c 0) () 1) ∗ cred (tallyAt (cell c 2) () N)) := if_pos rfl

/-- Before the body: ghost state, credit, levels, and the two arrays — the result array at any contents. -/
def before (K : Dev nD × Fin 4 → ℕ) (c : Dev nD) : sProp 𝕄 :=
  iprop(records sw m K ∗ holdings c ∗ credits sw c ∗ levAts L lv ∗ inPts c (block m c) ∗ ∃ f, outPts c f)

/-- After it: the input unchanged, the result array with the block that belongs there, all four counters at zero. -/
def done (c : Dev nD) : sProp 𝕄 :=
  iprop(inPts c (block m c) ∗ outPts c (block m (origin sw c)) ∗ bigSep Finset.univ fun k : Fin 4 => semVal (cell c k) 0)

omit [FloatOps F] in
/-- A conjunction over the four numbers, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The kernel has no loop to bound. -/
abbrev 𝒱₀ : Variants := Variants.none

section Steps
variable (K : Dev nD × Fin 4 → ℕ) (c : Dev nD)

/-- Waiting for the whole amount of an own paid cell: the wait takes what the payment hands over and leaves the cell
    closed, its counter at zero. -/
theorem wait_own (k : Fin 4) (hp : paid sw k = true) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (slot k) (size k) Q)
    {α : Type} {Q : α → sProp 𝕄} {rest : PUnit → Prog (TpuEff nD τ sig (Elt F) Λ₀ .tc) α} (O : CellTallies nD τ sig Unit) (W : Waits sig Unit) :
    iprop(records sw m K ∗ cred (tallyAt (cell c k) () (size k)) ∗ owes (c : Thread nD τ) O W ∗ MayWait (c : Thread nD τ) (slot k) () O
        ∗ atPos ER (cell c k) 0 ∅ 0)
      ⊢ iprop(((owes (c : Thread nD τ) O (insert (slot k, ()) W) ∗ hand m k c ∗ semVal (cell c k) 0)
              -∗ wp frame (wpE (defs₀ (F := F)) 𝒱₀ (c : Thread nD τ) none) Set.univ (rest ⟨⟩) Q)
          -∗ wp frame (wpE (defs₀ (F := F)) 𝒱₀ (c : Thread nD τ) none) Set.univ (.op w rest) Q) := by
  iintro ⟨#HR, Hc, HO, HM, Hat⟩ Hk
  ihave #HI := (inv_of_records sw m K c k) $$ HR
  iapply (Rounds.wp_wait_rest_token 𝒱₀ ER (sched sw m) (c : Thread nD τ) none (κ := K (c, k)) hw (Set.mem_univ _) () (O := O) (W := W)
      (R := 0) (m := 0) (T := ∅) (by rw [Nat.zero_add, expect_cell sw m c k hp])) $$ [Hc HO HM Hat]
  · isplitr; · iexact HI
    isplitl [Hc]; · iexact Hc
    isplitl [HO]; · iexact HO
    isplitl [HM]; · iexact HM
    iexact Hat
  iintro ⟨HO, Hat, -, Hpay⟩
  ihave Hpay := (Entails.of_eq (rest_cell sw m c k hp)) $$ Hpay
  imod (Rounds.cell_close ER (sched sw m) (Set.mem_univ (K (c, k))) (fun h => h) (R := 0 + 1) (duties_after sw m (cell c k))) $$ [Hat] with Hz
  · isplitr; · iexact HI
    iexact Hat
  iapply Hk
  isplitl [HO]; · iexact HO
  isplitl [Hpay] <;> iassumption

/-- Closing an own cell that is not paid. -/
theorem close_unpaid (k : Fin 4) (hp : paid sw k = false) :
    iprop(records sw m K ∗ atPos ER (cell c k) 0 ∅ 0) ⊢ iprop(|={Set.univ}=> semVal (cell c k) 0 : sProp 𝕄) := by
  iintro ⟨#HR, Hat⟩
  ihave #HI := (inv_of_records sw m K c k) $$ HR
  iapply (Rounds.cell_close ER (sched sw m) (Set.mem_univ (K (c, k))) (fun h => h) (R := 0) (duties_unpaid sw m c k hp))
  isplitr; · iexact HI
  iexact Hat

/-- Signalling the mate's barrier: the device pays the barrier's unit with its own result array. -/
theorem signal_mate {α : Type} {Q : α → sProp 𝕄} {rest : PUnit → Prog (TpuEff nD τ sig (Elt F) Λ₀ .tc) α} (W : Waits sig Unit) :
    iprop(records true m K ∗ owes (c : Thread nD τ) (debt true c) W ∗ dutyTok ER (cell (mate c) 0) 0 () ∗ (∃ f, outPts c f))
      ⊢ iprop((owes (c : Thread nD τ) (owesRecv c) W -∗ wp frame (wpE (defs₀ (F := F)) 𝒱₀ (c : Thread nD τ) none) Set.univ (rest ⟨⟩) Q)
          -∗ wp frame (wpE (defs₀ (F := F)) 𝒱₀ (c : Thread nD τ) none) Set.univ (.op (.semSignal (mate c : Thread nD τ) barS 1) rest) Q) := by
  iintro ⟨#HR, HO, Ht, Hout⟩ Hk
  ihave #HI := (inv_of_records true m K (mate c) 0) $$ HR
  ihave #Hr := (reached_of_records true m K (mate c) 0) $$ HR
  ihave #Hv := (reached_of_records true m K c 2) $$ HR
  iapply (Rounds.wp_signal 𝒱₀ ER (sched true m) (c : Thread nD τ) none (dst := (mate c : Thread nD τ)) (κ := K (mate c, 0))
      (mem_duties true m (mate c) 0 rfl) (amount_cell true m (mate c) 0) () (owesRecv c) (O₀ := debt true c) rfl) $$ [HO Ht Hout]
  · isplitr; · iexact HI
    isplitl [HO]; · iexact HO
    isplitl [Ht]; · iexact Ht
    isplitl [Hout]
    · iapply (Entails.of_eq (payload_cell true m (mate c) 0).symm)
      unfold hand; rw [mate_mate]
      isplitl [Hout]; · iexact Hout
      iexact Hv
    iexact Hr
  iexact Hk

/-- Sending the input block into the mate's result array (`n` is the mate). -/
theorem send_mate (n : Dev nD) (hn : n = mate c) {hsc : (oM : Memref sig (Dev.tc n : Thread nD τ).2.kind .hbm S1x2048x1024 .f32).view.ref.isScScratch = false}
    {hsrc : (xM : Memref sig .tc .hbm S1x2048x1024 .f32).view.WordExact} {hdst : (oM : Memref sig .tc .hbm S1x2048x1024 .f32).view.WordExact}
    {hsem : DmaTarget.Typed .hbm (.dma recvS) (.remote (Dev.tc n : Thread nD τ) (oM : Memref sig .tc .hbm S1x2048x1024 .f32) (.dma sendS) hsc)}
    {α : Type} {Q : α → sProp 𝕄} {rest : PUnit → Prog (TpuEff nD τ sig (Elt F) Λ₀ .tc) α} (W : Waits sig Unit) :
    iprop(records true m K ∗ inPts c (block m c) ∗ (∃ f, outPts (mate c) f) ∗ owes (c : Thread nD τ) (owesRecv c) W
        ∗ dutyTok ER (cell c 1) 0 () ∗ dutyTok ER (cell (mate c) 2) 0 ())
      ⊢ iprop(((cred (tallyAt (cell c 1) () N) ∗ owes (c : Thread nD τ) 0 W)
              -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) rest) Q) := by
  subst hn
  unfold inPts outPts
  iintro ⟨#HR, Hin, ⟨%f, Hout⟩, HO, Hts, Htv⟩ Hk
  ihave #HI1 := (inv_of_records true m K c 1) $$ HR
  ihave #HI2 := (inv_of_records true m K (mate c) 2) $$ HR
  ihave #Hr1 := (reached_of_records true m K c 1) $$ HR
  ihave #Hr2 := (reached_of_records true m K (mate c) 2) $$ HR
  iapply (Rounds.wp_send_pointsTo 𝒱₀ ER (sched true m) (c : Thread nD τ) none (κ₁ := K (c, 1)) (κ₂ := K (mate c, 2))
      (r₁ := 0) (r₂ := 0) (d₁ := ()) (d₂ := ()) (fs := block m c) (fd := f)
      (mem_duties true m c 1 rfl) (mem_duties true m (mate c) 2 rfl) () () N rfl (amount_cell true m c 1) (amount_cell true m (mate c) 2)
      0 (by rw [zero_add]) (W := W)
      (by rw [payload_cell true m c 1]; exact BI.Entails.refl _)
      (by rw [payload_cell true m (mate c) 2]; unfold hand outPts; rw [written, mate_mate])) $$ [Hin Hout HO Hts Htv]
  · isplitr; · iexact HI1
    isplitr; · iexact HI2
    isplitl [Hin]; · iexact Hin
    isplitl [Hout]; · iexact Hout
    isplitl [HO]; · iexact HO
    isplitl [Hts]; · iexact Hts
    isplitr; · iexact Hr1
    isplitl [Htv]; · iexact Htv
    iexact Hr2
  iexact Hk

/-- Starting the copy of the input block into the device's own result array. -/
theorem copy_own {hsrc : (xM : Memref sig .tc .hbm S1x2048x1024 .f32).view.WordExact} {hdst : (oM : Memref sig .tc .hbm S1x2048x1024 .f32).view.WordExact}
    {hsem : DmaTarget.Typed (nD := nD) .hbm (.dma copyS) (.here (p := (Proc.tc : Proc τ)) (oM : Memref sig .tc .hbm S1x2048x1024 .f32))}
    {α : Type} {Q : α → sProp 𝕄} {rest : PUnit → Prog (TpuEff nD τ sig (Elt F) Λ₀ .tc) α} :
    iprop(records false m K ∗ inPts c (block m c) ∗ (∃ f, outPts c f) ∗ dutyTok ER (cell c 3) 0 ())
      ⊢ iprop((cred (tallyAt (cell c 3) () N) -∗ wp frame (wpE (defs₀ (F := F)) 𝒱₀ (c : Thread nD τ) none) Set.univ (rest ⟨⟩) Q)
          -∗ wp frame (wpE (defs₀ (F := F)) 𝒱₀ (c : Thread nD τ) none) Set.univ (.op (.enqueueDma xM (.here oM) (.dma copyS) hsrc hdst hsem) rest) Q) := by
  unfold inPts outPts
  iintro ⟨#HR, Hin, ⟨%f, Hout⟩, Ht⟩ Hk
  ihave #HI := (inv_of_records false m K c 3) $$ HR
  ihave #Hr := (reached_of_records false m K c 3) $$ HR
  iapply (Rounds.wp_copy_pointsTo 𝒱₀ ER (sched false m) (c : Thread nD τ) none (κ := K (c, 3)) (r := 0) (d := ()) (fs := block m c) (fd := f)
      (mem_duties false m c 3 rfl) () N rfl (amount_cell false m c 3)
      (by rw [payload_cell false m c 3]; unfold hand outPts inPts; rw [written])) $$ [Hin Hout Ht]
  · isplitr; · iexact HI
    isplitl [Hin]; · iexact Hin
    isplitl [Hout]; · iexact Hout
    isplitl [Ht]; · iexact Ht
    iexact Hr
  iexact Hk

/-- The body, from its starting resources and its table staged, under a table of either kind. -/
theorem body_runs (h : Says sw (table m c)) (O W) (hO : O = debt sw c) (Q : PUnit → sProp 𝕄) :
    iprop(before sw m K c ∗ owes (c : Thread nD τ) O W ∗ (((c : Thread nD τ).loc cc0_stg0_0) ↦{fullShare} staged m c)
        ∗ ((done sw m c ∗ (∃ W', owes (c : Thread nD τ) 0 W') ∗ (((c : Thread nD τ).loc cc0_stg0_0) ↦{fullShare} staged m c)) -∗ Q ⟨⟩))
      ⊢ wp frame (wpE (defs₀ (F := F)) 𝒱₀ (c : Thread nD τ) none) Set.univ
          (cc0_body (Memref.whole main_arg0) (Memref.isWhole_whole _) (Memref.whole cc0_stg0_0) (Memref.isWhole_whole _)
            (Memref.whole main_v1) (Memref.isWhole_whole _) cc0_scratch0 cc0_scratch1 cc0_scratch2) Q := by
  subst hO
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold before holdings
  rw [four, four]
  iintro ⟨⟨#HR, ⟨⟨HaB, HaS, HaV, HaC⟩, HtB, HtS, HtV, HtC⟩, Hcr, #Hlev, Hin, Hout⟩, HO, Ht, Hk⟩
  iapply (wp_load_rect 𝒱₀ (c : Thread nD τ) none Set.univ (m := tM) (r := rect0) (Finset.subset_univ _)) $$ Ht; iintro Ht
  iapply (wp_load_rect 𝒱₀ (c : Thread nD τ) none Set.univ (m := tM) (r := rect1) (Finset.subset_univ _)) $$ Ht; iintro Ht
  rw [load0 sw m c h, load1 sw m c h]
  simp only [wp_assume_of _ _ _ _ (d := k0_chk1.dec _ _ _) (chk sw c)]
  cases sw
  · -- keeping table: copy the block within the device, wait, and close the three cells nothing paid
    rw [if_pos (stayBit_keep c), dif_neg (sends_keep c)]
    iapply (copy_own m K c) $$ [Hin Hout HtC]
    · isplitr; · iexact HR
      isplitl [Hin]; · iexact Hin
      isplitl [Hout]; · iexact Hout
      iexact HtC
    iintro Hc
    iapply (wait_own false m K c 3 rfl (wpE_waitDma2_eq 𝒱₀ (c : Thread nD τ) none Set.univ) (debt false c) W) $$ [Hc HO HaC]
    · isplitr; · iexact HR
      isplitl [Hc]; · iexact Hc
      isplitl [HO]; · iexact HO
      isplitr; · rw [show debt false c = 0 from rfl, MayWait_zero]; iempintro
      iexact HaC
    iintro ⟨HO, Hgot, HzC⟩
    unfold hand
    icases Hgot with ⟨Hout, Hin⟩
    imod (close_unpaid false m K c 0 rfl) $$ [HaB] with HzB
    · isplitr; · iexact HR
      iexact HaB
    imod (close_unpaid false m K c 1 rfl) $$ [HaS] with HzS
    · isplitr; · iexact HR
      iexact HaS
    imod (close_unpaid false m K c 2 rfl) $$ [HaV] with HzV
    · isplitr; · iexact HR
      iexact HaV
    rw [wp_ret]; imodintro
    iapply Hk
    unfold done; rw [four]
    isplitl [Hin Hout HzB HzS HzV HzC]
    · isplitl [Hin]; · iexact Hin
      isplitl [Hout]; · iexact Hout
      isplitl [HzB]; · iexact HzB
      isplitl [HzS]; · iexact HzS
      isplitl [HzV] <;> iassumption
    isplitl [HO]; · iexists _; iexact HO
    iexact Ht
  · -- exchanging table: signal the mate, wait for its signal, send, wait for both transfers, and close the copy cell
    rw [if_neg (stayBit_swap c), dif_pos (sends_swap c)]
    rw [show (1#32 : BitVec 32).toInt = 1 from rfl]
    ihave Hcr := (Entails.of_eq (credits_swap (F := F) c)) $$ Hcr
    icases Hcr with ⟨HcB, HcV⟩
    simp only [dev1_mate c]
    iapply (signal_mate m K c W) $$ [HO HtB Hout]
    · isplitr; · iexact HR
      isplitl [HO]; · iexact HO
      isplitl [HtB]; · iexact HtB
      iexact Hout
    iintro HO
    iapply (wait_own true m K c 0 rfl (wpE_semWait_eq 𝒱₀ (c : Thread nD τ) none Set.univ) (owesRecv c) W) $$ [HcB HO HaB]
    · isplitr; · iexact HR
      isplitl [HcB]; · iexact HcB
      isplitl [HO]; · iexact HO
      isplitr; · iapply (mayWait_bar c); iexact Hlev
      iexact HaB
    iintro ⟨HO, Hgot, HzB⟩
    unfold hand
    icases Hgot with ⟨Hout, -⟩
    iapply (send_mate m K c _ (dev2_mate c _)) $$ [Hin Hout HO HtS HtV]
    · isplitr; · iexact HR
      isplitl [Hin]; · iexact Hin
      isplitl [Hout]; · iexact Hout
      isplitl [HO]; · iexact HO
      isplitl [HtS]; · iexact HtS
      iexact HtV
    iintro ⟨HcS, HO⟩
    iapply (wait_own true m K c 1 rfl (fun Q => (wpE_waitDma2_eq 𝒱₀ (c : Thread nD τ) none Set.univ Q).trans (by rw [credit_in]; rfl)) 0 _) $$ [HcS HO HaS]
    · isplitr; · iexact HR
      isplitl [HcS]; · iexact HcS
      isplitl [HO]; · iexact HO
      isplitr; · rw [MayWait_zero]; iempintro
      iexact HaS
    iintro ⟨HO, Hin, HzS⟩
    iapply (wait_own true m K c 2 rfl (wpE_waitDma2_eq 𝒱₀ (c : Thread nD τ) none Set.univ) 0 _) $$ [HcV HO HaV]
    · isplitr; · iexact HR
      isplitl [HcV]; · iexact HcV
      isplitl [HO]; · iexact HO
      isplitr; · rw [MayWait_zero]; iempintro
      iexact HaV
    iintro ⟨HO, Hout, HzV⟩
    unfold hand
    imod (close_unpaid true m K c 3 rfl) $$ [HaC] with HzC
    · isplitr; · iexact HR
      iexact HaC
    rw [wp_ret]; imodintro
    iapply Hk
    unfold done; rw [four]
    isplitl [Hin Hout HzB HzS HzV HzC]
    · isplitl [Hin]; · iexact Hin
      isplitl [Hout]; · iexact Hout
      isplitl [HzB]; · iexact HzB
      isplitl [HzS]; · iexact HzS
      isplitl [HzV] <;> iassumption
    isplitl [HO]; · iexists _; iexact HO
    iexact Ht

end Steps

end Cert.RowSwap

end
-- ==== Proof.Run.lean ====
/-
The run of the whole program: the launch deals every device its cells, its rights to pay and its arrays; the body proof of
`Body` runs on each; and the final memory is read back.
-/
module

public import proofs.«01_k».proof.Proof.Body
public import Idealize.ShloMosaic.Lib.Pipeline.CollectiveSegs

@[expose] public section

noncomputable section

namespace Cert.RowSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ) (ρ : Dev nD → PrngReg)

/-- The state at launch: any memory, all counters at zero, any generator registers. -/
def launchSt : MemSt nD τ sig (Elt F) := ⟨m, fun _ => 0, ρ⟩

/-! ## The pipeline's proof data: one window, the table, at one point -/

/-- What a device enters the launch with, its arrays apart. -/
def entry (c : Dev nD) : sProp 𝕄 := iprop((∃ K, records sw m K ∗ holdings c) ∗ credits sw c ∗ levAts L lv)

/-- What the body starts from, the names of the invariants hidden. -/
def ready (c : Dev nD) : sProp 𝕄 := iprop(entry sw m c ∗ inPts c (block m c) ∗ ∃ f, outPts c f)

/-- The one point of the grid. -/
def point : Fin cfg0.N := ⟨0, by rw [show cfg0.N = 1 from N_0]; exact Nat.one_pos⟩

/-- The table is fetched into the staging buffer and stays; before the one point the device is ready, after it done, and it owes
    its debt only before. -/
def dats (_ : Fin 1) (c : Dev nD) : Dat τ (Elt F) Unit ℕ UU ℕ cfg0 c where
  A w := (launchSt m ρ).mem ((cfg0.win w).arr.view.loc (c : Thread nD τ))
  after w _ := match w with
    | ⟨0, _⟩ => staged m c
  Φ t := match t with
    | ⟨0, _⟩ => ready sw m c
    | ⟨_ + 1, _⟩ => done sw m c
  q _ := fullShare
  owed t := match t with
    | ⟨0, _⟩ => debt sw c
    | ⟨_ + 1, _⟩ => 0

omit [FloatOps F] in
/-- A device's staged table at contents `X`, in the library's form and as a points-to. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged table on device `c`, holding `X`. -/
def tablePts (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

/-- What the library gives the body, -/
def given (c : Dev nD) : sProp 𝕄 :=
  iprop(ready sw m c ∗ (dats sw m ρ 0 c).owesAt () point.castSucc ∗ ∃ d, tablePts c ((dats sw m ρ 0 c).before (0 : Fin 1) point d))
/-- and what it asks back. -/
def asked (c : Dev nD) : sProp 𝕄 :=
  iprop(done sw m c ∗ (dats sw m ρ 0 c).owesAt () point.succ ∗ tablePts c (staged m c))

/-- The body takes the one to the other. -/
theorem body_at_point (h : ∀ c, Says sw (table m c)) (c : Dev nD) :
    given sw m ρ c ⊢ wp frame (wpE (defs₀ (F := F)) 𝒱₀ c none) Set.univ
      (cc0_body (Memref.whole main_arg0) (Memref.isWhole_whole _) (Memref.whole cc0_stg0_0) (Memref.isWhole_whole _)
        (Memref.whole main_v1) (Memref.isWhole_whole _) cc0_scratch0 cc0_scratch1 cc0_scratch2) (fun _ => asked sw m ρ c) := by
  unfold given asked tablePts ready entry Dat.owesAt Pipeline.owesWithin
  rw [show (dats sw m ρ 0 c).owed point.castSucc = debt sw c from rfl, show (dats sw m ρ 0 c).owed point.succ = 0 from rfl]
  iintro ⟨⟨⟨⟨%K, HR, Hh⟩, Hcr, Hlev⟩, Hin, Hout⟩, ⟨%W, %hW, HO⟩, ⟨%d, %f, %hf, Ht⟩⟩
  have hs : f = staged m c := by rw [hf]; unfold Dat.before; rw [if_pos (fetch0_0 _)]; rfl
  subst hs
  iapply (body_runs sw m K c (h c) (debt sw c) W rfl)
  unfold before
  isplitl [HR Hh Hcr Hlev Hin Hout]
  · isplitl [HR]; · iexact HR
    isplitl [Hh]; · iexact Hh
    isplitl [Hcr]; · iexact Hcr
    isplitl [Hlev]; · iexact Hlev
    isplitl [Hin] <;> iassumption
  isplitl [HO]; · iexact HO
  isplitl [Ht]; · iexact Ht
  iintro ⟨Hd, ⟨%W', HO⟩, Ht⟩
  isplitl [Hd]; · iexact Hd
  isplitl [HO]
  · iexists W'
    isplitr; · ipureintro; exact fun _ _ => Or.inl trivial
    iexact HO
  iexists _; isplitr; · (ipureintro; rfl)
  iexact Ht

set_option maxHeartbeats 4000000 in
set_option maxRecDepth 4000 in
/-- The library's demand on the body. -/
theorem body_obligation (h : ∀ c, Says sw (table m c)) (c : Dev nD) : BodyObligation (dats sw m ρ 0 c) (defs₀ (F := F)) 𝒱₀ () Set.univ := fun t => by
  rw [show t = point from fin_N0 t]
  rw [bigSep_W0, bigSep_W0]
  simp only [owns_staged]
  exact body_at_point sw m ρ h c

/-! ## Dealing the cells -/

/-- The launch's own semaphores: all but the barrier. -/
abbrev ownSem : Fin 3 → SemLoc sig
  | 0 => slot 1
  | 1 => slot 2
  | 2 => slot 3

/-- They are scoped, distinct, and none stages the table. -/
theorem ownSem_facts : Pipeline.OwnSemFacts cfg0.spec ownSem := by decide

/-- All sixteen cells, -/
abbrev cellAt (ck : Dev nD × Fin 4) : GSem nD τ sig := cell ck.1 ck.2
/-- no two the same; -/
theorem cellAt_inj : Function.Injective cellAt := fun a b h => Prod.ext (cell_inj h).1 (cell_inj h).2
/-- the set of them, -/
def cells : Finset (GSem nD τ sig) := Finset.univ.map ⟨cellAt, cellAt_inj⟩
/-- and the right to pay each, once. -/
abbrev tokAt (ck : Dev nD × Fin 4) : GSem nD τ sig × ℕ × Unit := (cell ck.1 ck.2, 0, ())
/-- no two of these rights the same; -/
theorem tokAt_inj : Function.Injective tokAt := fun a b h => cellAt_inj (congrArg Prod.fst h)
/-- the set of them. -/
def toks : Finset (GSem nD τ sig × ℕ × Unit) := Finset.univ.map ⟨tokAt, tokAt_inj⟩

/-- The ghost state at launch: the library's staging cells and rights, and the protocol's. -/
def u₀ : UU := (initOf (Pipeline.cells cfgs cellOf_inj) (Pipeline.launchToks cfgs cellOf_inj), initOf cells toks)

/-- What the launch deals device `c`: for each of its cells the round's state, the position, that it is reached, and the
    right to pay it. -/
def dealt (c : Dev nD) : sProp 𝕄 :=
  bigSep Finset.univ fun k : Fin 4 => iprop(roundState ER (sched sw m) (cell c k) 0 ∗ atPos ER (cell c k) 0 ∅ 0 ∗ reached ER (cell c k) 0 ∗ dutyTok ER (cell c k) 0 ())

/-- What the devices together make of it. -/
def shared (c : Dev nD) : sProp 𝕄 := iprop(∃ K, records sw m K ∗ holdings c)

omit [FloatOps F] in
/-- The protocol's ghost state at launch deals every device its share. -/
theorem fund_cells : BI.own (ER (initOf cells toks)) ⊢ (|==> bigSep Finset.univ (dealt sw m) : sProp 𝕄) := by
  have hX (Φ : GSem nD τ sig → sProp 𝕄) : bigSep cells Φ = bigSep Finset.univ fun c : Dev nD => bigSep Finset.univ fun k : Fin 4 => Φ (cell c k) := by
    unfold cells; rw [bigSep_map, bigSep_univ_prod]; rfl
  have hT : bigSep toks (fun x => (dutyTok ER x.1 x.2.1 x.2.2 : sProp 𝕄)) = bigSep Finset.univ fun c : Dev nD => bigSep Finset.univ fun k : Fin 4 => dutyTok ER (cell c k) 0 () := by
    unfold toks; rw [bigSep_map, bigSep_univ_prod]; rfl
  iintro H
  imod (Rounds.fund ER (sched sw m) cells toks) $$ H with ⟨Hst, Hr, Hat, Htok⟩
  imodintro
  ihave Hst := (Entails.of_eq (hX fun g => roundState ER (sched sw m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

omit [FloatOps F] in
/-- The launch's own semaphores at zero, cell by cell, -/
theorem own_eq (c : Dev nD) : (Pipeline.ownSems0 (Ix := Unit) (Name := ℕ) (U := UU) (Lvl := ℕ) (Val := Elt F) (τ := τ) ownSem c : sProp 𝕄)
    = iprop(semVal (cell c 1) 0 ∗ semVal (cell c 2) 0 ∗ semVal (cell c 3) 0) := by
  rw [Pipeline.ownSems0_eq_of_list c ownSem [0, 1, 2] (by decide) (by decide)]; rfl
omit [FloatOps F] in
/-- and the one semaphore that outlives it, the barrier. -/
theorem outliving_eq (c : Dev nD) : (unscopedSems0 c : sProp 𝕄) = semVal (cell c 0) 0 := by
  unfold unscopedSems0; rw [bigSep_eq_bigSepL_of_eq [SemLoc.reg barS] (by decide) (by decide)]; rfl

omit [FloatOps F] in
/-- Together they are the device's four counters at zero. -/
theorem counters_eq (c : Dev nD) :
    (bigSep Finset.univ fun k : Fin 4 => semVal (cell c k) 0 : sProp 𝕄)
      = iprop(unscopedSems0 c ∗ Pipeline.ownSems0 (Ix := Unit) (Name := ℕ) (U := UU) (Lvl := ℕ) (Val := Elt F) (τ := τ) ownSem c) := by
  rw [own_eq, outliving_eq, four]

omit [FloatOps F] in
/-- A device opens its four cells: each counter, with its round's state, becomes an invariant under some name. -/
theorem open_cells (c : Dev nD) :
    iprop(Pipeline.ownSems0 (Ix := Unit) (Name := ℕ) (U := UU) (Lvl := ℕ) (Val := Elt F) (τ := τ) ownSem c ∗ unscopedSems0 c ∗ dealt sw m c)
      ⊢ |={Set.univ}=> iprop((bigSep Finset.univ fun k : Fin 4 => iprop(∃ κ : ℕ, cellInv ER (sched sw m) κ (cell c k)))
          ∗ (bigSep Finset.univ fun k : Fin 4 => atPos ER (cell c k) 0 ∅ 0)
          ∗ (bigSep Finset.univ fun k : Fin 4 => reached ER (cell c k) 0)
          ∗ bigSep Finset.univ fun k : Fin 4 => dutyTok ER (cell c k) 0 ()) := by
  unfold dealt; simp only [bigSep_sep']
  iintro ⟨Hown, Hout, Hst, Hat, Hr, Htok⟩
  ihave Hv := (Entails.of_eq (counters_eq (F := F) c).symm) $$ [Hout Hown]
  · isplitl [Hout] <;> iassumption
  imod (show iprop((bigSep Finset.univ fun k : Fin 4 => semVal (cell c k) 0) ∗ bigSep Finset.univ fun k : Fin 4 => roundState ER (sched sw m) (cell c k) 0)
      ⊢ (|={Set.univ}=> bigSep Finset.univ fun k : Fin 4 => iprop(∃ κ : ℕ, cellInv ER (sched sw m) κ (cell c k)) : sProp 𝕄) from by
        rw [← bigSep_sep']
        exact (bigSep_mono fun k _ => (Rounds.body_intro ER (sched sw m) (cell c k)).trans inv_alloc).trans (bigSep_fupd _ _)) $$ [Hv Hst] with HI
  · isplitl [Hv] <;> iassumption
  imodintro
  isplitl [HI]; · iexact HI
  isplitl [Hat]; · iexact Hat
  isplitl [Hr] <;> iassumption

omit [FloatOps F] in
/-- Every right to pay goes from the cell's device to the device that pays the cell. -/
theorem hand_out :
    (bigSep Finset.univ fun c : Dev nD => bigSep Finset.univ fun k : Fin 4 => (dutyTok ER (cell c k) 0 () : sProp 𝕄))
      = bigSep Finset.univ fun c : Dev nD => bigSep Finset.univ fun k : Fin 4 => dutyTok ER (cell (payer k c) k) 0 () := by
  rw [← bigSep_univ_prod (fun ck : Dev nD × Fin 4 => (dutyTok ER (cell ck.1 ck.2) 0 () : sProp 𝕄)),
    ← bigSep_univ_prod (fun ck : Dev nD × Fin 4 => (dutyTok ER (cell (payer ck.2 ck.1) ck.2) 0 () : sProp 𝕄))]
  exact bigSep_univ_equiv payers (fun ck : Dev nD × Fin 4 => (dutyTok ER (cell ck.1 ck.2) 0 () : sProp 𝕄))

omit [FloatOps F] in
/-- What all devices opened, regrouped: the records, known to each, and what each keeps. -/
theorem regroup :
    (bigSep Finset.univ fun c : Dev nD => iprop((bigSep Finset.univ fun k : Fin 4 => iprop(∃ κ : ℕ, cellInv ER (sched sw m) κ (cell c k)))
          ∗ (bigSep Finset.univ fun k : Fin 4 => atPos ER (cell c k) 0 ∅ 0)
          ∗ (bigSep Finset.univ fun k : Fin 4 => reached ER (cell c k) 0)
          ∗ bigSep Finset.univ fun k : Fin 4 => dutyTok ER (cell c k) 0 ()) : sProp 𝕄)
      ⊢ bigSep Finset.univ (shared sw m) := by
  rw [bigSep_sep', bigSep_sep', bigSep_sep', hand_out,
    ← bigSep_univ_prod (fun ck : Dev nD × Fin 4 => iprop(∃ κ : ℕ, cellInv ER (sched sw m) κ (cell ck.1 ck.2))),
    ← bigSep_univ_prod (fun ck : Dev nD × Fin 4 => (reached ER (cell ck.1 ck.2) 0 : sProp 𝕄))]
  iintro ⟨HI, Hat, #HR, Htok⟩
  ihave HK := (BI.bigSep_exists_pi Finset.univ (fun (ck : Dev nD × Fin 4) (κ : ℕ) => (cellInv ER (sched sw m) κ (cell ck.1 ck.2) : sProp 𝕄))) $$ HI
  icases HK with ⟨%K, #HI⟩
  have gather (K : Dev nD × Fin 4 → ℕ) (c : Dev nD) : (iprop(records sw m K ∗ holdings c) : sProp 𝕄) ⊢ shared sw m c := by
    unfold shared
    iintro ⟨HR, Hh⟩
    iexists K
    isplitl [HR] <;> iassumption
  have key : iprop(records sw m K ∗ bigSep Finset.univ (fun c : Dev nD => (holdings c : sProp 𝕄))) ⊢ bigSep Finset.univ (shared sw m) :=
    (sep_mono_left (BI.bigSep_of_persistent Finset.univ (records sw m K))).trans (by
      rw [← bigSep_sep']
      exact bigSep_mono fun c _ => gather K c)
  iapply key
  isplitr
  · unfold records; isplitr; · iexact HI
    iexact HR
  unfold holdings; rw [bigSep_sep']
  isplitl [Hat] <;> iassumption

omit [FloatOps F] in
/-- The step all devices take together before they start. -/
theorem together :
    (bigSep Finset.univ fun c => iprop(Pipeline.ownSems0 (Ix := Unit) (Name := ℕ) (U := UU) (Lvl := ℕ) (Val := Elt F) (τ := τ) ownSem c ∗ unscopedSems0 c ∗ dealt sw m c) : sProp 𝕄)
      ⊢ |={Set.univ}=> bigSep Finset.univ (shared sw m) :=
  ((bigSep_mono fun c _ => open_cells sw m c).trans (bigSep_fupd _ _)).trans (BI.fupd_mono (regroup sw m))

/-! ## The credit at launch -/

omit [FloatOps F] in
/-- A tally on the mate's cell `k` counts, on cell `k'` of `c`, for the mate alone and only at `k' = k`. -/
theorem tally_mate (d c : Dev nD) (k k' : Fin 4) (n : ℕ) :
    (tallyAt (cell (mate d) k) () n : CellTallies nD τ sig Unit) (cell c k') () = if d = mate c then (if k = k' then n else 0) else 0 := by
  rw [tallyAt_apply]
  by_cases hd : d = mate c
  · subst hd; rw [mate_mate, if_pos rfl]
    by_cases hk : k = k'
    · subst hk; rw [if_pos ⟨rfl, rfl⟩, if_pos rfl]
    · rw [if_neg (fun h => hk (cell_inj h.1).2.symm), if_neg hk]
  · rw [if_neg hd, if_neg (fun h => hd (by rw [(cell_inj h.1).1, mate_mate]))]

omit [FloatOps F] in
/-- What the devices owe cell `k` of `c` in all: what its mate owes it. -/
theorem credit_at (c : Dev nD) (k : Fin 4) :
    tallyOn (cell c k) (launchCredit (Pipeline.owing (debt true)) 0 (cell c k))
      = (tallyAt (cell c k) () ((if (2 : Fin 4) = k then N else 0) + (if (0 : Fin 4) = k then 1 else 0)) : CellTallies nD τ sig Unit) := by
  unfold tallyAt; refine congrArg _ (Finsupp.ext fun u => ?_); cases u
  have h : ∀ d : Dev nD, debt true d (cell c k) () = if d = mate c then ((if (2 : Fin 4) = k then N else 0) + (if (0 : Fin 4) = k then 1 else 0)) else 0 := fun d => by
    show (owesRecv d + tallyAt (cell (mate d) 0) () 1 : CellTallies nD τ sig Unit) (cell c k) () = _
    rw [Pi.add_apply, Finsupp.add_apply, tally_mate, tally_mate]
    split <;> rfl
  rw [Pipeline.launchCredit_owing, Finsupp.single_eq_same, Finset.sum_congr rfl fun d _ => h d, Finset.sum_ite_eq' Finset.univ (mate c), if_pos (Finset.mem_univ _)]

omit [FloatOps F] in
/-- So a device is given the credit its waits spend. -/
theorem credits_at_launch (c : Dev nD) : (Pipeline.launchCred (debt sw) c : sProp 𝕄) ⊢ credits sw c := by
  cases sw
  · exact (show (Pipeline.launchCred (debt false) c : sProp 𝕄) ⊢ iprop(emp) from by iintro -; iempintro)
  · rw [credits_swap]
    unfold Pipeline.launchCred
    rw [bigSep_univ_at _ (slot 0), show tallyOn (cell c 0) (launchCredit (Pipeline.owing (debt true)) 0 (cell c 0)) = _ from credit_at c 0]
    refine sep_mono_right ((bigSep_elim (Finset.mem_erase.mpr ⟨fun h => absurd (slot_inj (k := 2) (k' := 0) h) (by decide), Finset.mem_univ (slot 2)⟩)).trans ?_)
    exact Entails.of_eq (congrArg cred (credit_at c 2))

/-! ## The launch theorem's remaining conditions -/

/-- A device enters with what was dealt and its two arrays at their launch contents. -/
theorem enter (c : Dev nD) :
    iprop(Pipeline.unscopedRestP Pipeline.Prefetch.none cfg0.spec c (fun b => m ((c : Thread nD τ).loc b)) ∗ levAts L lv
        ∗ Pipeline.launchCred (debt sw) c ∗ prngReg c (ρ c) ∗ shared sw m c)
      ⊢ |={Set.univ}=> iprop(ready sw m c ∗ emp) := by
  rw [Pipeline.unscopedRestP_none, show (Pipeline.unscopedRest (Ix := Unit) (Name := ℕ) (U := UU) (Lvl := ℕ) cfg0.spec c (fun b => m ((c : Thread nD τ).loc b)) : sProp 𝕄) = _ from
    unscopedRest0_eq c fun b => m ((c : Thread nD τ).loc b)]
  iintro ⟨⟨Hx, Ho⟩, Hlev, Hcr, -, HG⟩
  ihave Hc := (credits_at_launch (F := F) sw c) $$ Hcr
  imodintro
  isplitl
  · unfold ready entry shared
    isplitl [HG Hc Hlev]
    · isplitl [HG]; · iexact HG
      isplitl [Hc] <;> iassumption
    isplitl [Hx]
    · iapply (Entails.of_eq (inPts_eq c (block m c)).symm); iexact Hx
    iexists _
    iapply (Entails.of_eq (outPts_eq c (m ((c : Thread nD τ).loc main_v1))).symm); iexact Ho
  iempintro

/-- That is what the body's first point asks; -/
theorem first_point (c : Dev nD) :
    iprop(ready sw m c ∗ Pipeline.prefHeld Pipeline.Prefetch.none c (fun _ => fullShare.right) (fun k => k.elim0) ∗ Pipeline.scopedRest cfg0.spec c)
      ⊢ (dats sw m ρ 0 c).Φ 0 := by
  rw [show (dats sw m ρ 0 c).Φ 0 = ready sw m c from rfl]
  iintro ⟨H, -, -⟩
  iexact H

/-- What leaves the launch: the barrier's counter and the two arrays. -/
def leaving (c : Dev nD) : sProp 𝕄 := iprop(unscopedSems0 c ∗ inPts c (block m c) ∗ outPts c (block m (origin sw c)))

/-- and after the last point the launch's semaphores are given back at zero. -/
theorem last_point (c : Dev nD) :
    (dats sw m ρ 0 c).Φ (Fin.last cfg0.N) ⊢ iprop(leaving sw m c ∗ Pipeline.ownSems0 ownSem c ∗ Pipeline.scopedRest cfg0.spec c) := by
  rw [show (dats sw m ρ 0 c).Φ (Fin.last cfg0.N) = done sw m c from rfl, scopedRest0_eq]
  unfold done leaving
  rw [counters_eq]
  iintro ⟨Hin, Hout, Hu, Hown⟩
  isplitl [Hu Hin Hout]
  · isplitl [Hu]; · iexact Hu
    isplitl [Hin] <;> iassumption
  isplitl [Hown]; · iexact Hown
  iempintro

/-- The staging's own wait is allowed on every device: no debt is on a cell below it. -/
theorem waits (c : Dev nD) : (levAts L lv : sProp 𝕄) ⊢ Pipeline.cellsWaits cfgs (dats sw m ρ) () 0 c :=
  Pipeline.cellsWaits_intro cfgs (dats sw m ρ) () 0 c fun w s t =>
    mayWait_stage sw c _ (by fin_cases w <;> fin_cases s <;> decide) _ (by
      rcases t with ⟨_ | _, ht⟩
      · exact Or.inl rfl
      · exact Or.inr rfl)

/-- What is read of a final state on device `c`: the input as launched, the result array with the block that belongs there,
    and the counters that outlive the launch at zero. -/
def Reads (c : Dev nD) (s : MemSt nD τ sig (Elt F)) : Prop :=
  (s.mem ((c : Thread nD τ).loc main_arg0) = block m c ∧ s.mem ((c : Thread nD τ).loc main_v1) = block m (origin sw c))
    ∧ ∀ sm : SemLoc sig, sm.isScoped .tc = false → s.sem ((c.tc : Thread nD τ), sm) = 0

/-- The final state is what leaves the launch. -/
theorem read_back (c : Dev nD) (s' : Phys nD τ sig (Elt F)) :
    iprop(leaving sw m c ∗ emp ∗ SI s') ⊢ |={Set.univ}=> iprop(⌜Reads sw m c s'.mem⌝ ∗ SI s' : sProp 𝕄) := by
  unfold leaving
  rw [inPts_eq, outPts_eq]
  iintro ⟨⟨Hu, Hin, Hout⟩, -, HSI⟩
  icombine HSI Hin gives %hin
  icombine HSI Hout gives %hout
  imod (Pipeline.unscopedSems0_read (X := unscopedSems0 c) (c := c) fupd_intro s') $$ [Hu HSI] with ⟨%hz, HSI⟩
  · isplitl [Hu] <;> iassumption
  imodintro
  isplitr
  · ipureintro
    exact ⟨⟨funext fun i => hin i (Finset.mem_univ i), funext fun i => hout i (Finset.mem_univ i)⟩, hz⟩
  iexact HSI

set_option maxHeartbeats 4000000 in
set_option maxRecDepth 8000 in
/-- From any memory whose tables all exchange the columns (`sw = true`), or all keep them (`sw = false`), with zero counters
    and any generator registers, at any float values: every fair execution of the program on the four devices ends, and
    at its end every device's input and table are as they were, its result array holds its mate's block (exchanged) or
    its own (kept), and every counter is at zero. -/
theorem run_main (h : ∀ c, Says sw (table m c)) :
    θ_run defs (onTc (τ := τ) (main (F := F))) (launchSt m ρ) (fun r =>
      (∀ c : Dev nD, r.2.mem ((c : Thread nD τ).loc main_arg0) = block m c ∧ r.2.mem ((c : Thread nD τ).loc main_arg1) = table m c
        ∧ r.2.mem ((c : Thread nD τ).loc main_v1) = block m (origin sw c))
      ∧ r.2.sem = fun _ => 0) :=
  Pipeline.θ_run_region_owing_glob_pf (fun p => (cfgs p).toPCfg) (fun p => (cfgs p).toPCfg_adm) (dats sw m ρ) () cellOf_inj (0 : Fin 1)
    winFacts0.to₀ ownSem_facts (Pipeline.PreFacts.none _) EP defs₀ 𝒱₀ m ρ main
    (hmain := fun _ => rfl)
    (hbody := body_obligation sw m ρ h) (hne := fun w => by fin_cases w; exact Nat.succ_pos _) (harr := arr_whole0) (hstage := stage_whole0)
    (hshare := fun c w => by unfold Dat.share; split <;> rfl)
    (hdistinct := winFacts0.arr_inj)
    (O₀ := debt sw) (howed₀ := fun _ => rfl) (howedN := fun _ => rfl)
    (L := L) (lv := lv) (hL := L_of_ne) (hwaits := waits sw m ρ)
    (G := dealt sw m) (G' := shared sw m) (u₀ := u₀)
    (hu₀ := by
      unfold u₀
      iintro Hu
      ihave H := (ownU_pair _ _) $$ Hu
      icases H with ⟨HP, HX⟩
      imod (fund_cells sw m) $$ HX with HG
      imodintro
      isplitl [HP] <;> iassumption)
    (hglob := together sw m)
    (hA := fun _ _ => rfl) (hpf := fun _ k => k.elim0)
    (X := ready sw m) (Y := leaving sw m) (Z := fun _ => iprop(emp))
    (hX := enter sw m ρ) (hin := first_point sw m ρ) (hout := last_point sw m ρ)
    (QY := Reads sw m) (hY := read_back sw m)
    (hQ := fun _ hr hs => ⟨fun c => ⟨(hr c).2.2.1.1, ((hr c).1 (0 : Fin 1)).trans ((dats sw m ρ 0 c).arrAt_in (0 : Fin 1) rfl _), (hr c).2.2.1.2⟩,
      sem_eq_zero hs fun c => (hr c).2.2.2⟩)

end Cert.RowSwap

end
-- ==== Proof.Value.lean ====
/-
The reference, and what its result is to the devices: for a table that exchanges the columns or keeps them, the inverse
permutation is the table itself, so the gathered array's block on device `c` is the argument's block on device `origin sw c`.
The two preconditions say which table it is.
-/
module

public import proofs.«01_k».proof.Proof.Words
public import proofs.«01_k».proof.Proof.Gen.ReferenceIdeal
public import proofs.«01_k».proof.Proof.Gen.Pre_pi_swaps_Kernel
public import proofs.«01_k».proof.Proof.Gen.Pre_pi_keeps_Kernel
public import Idealize.ShloMosaic.Lib.Layout
public import Idealize.ShloMosaic.Lib.StableHlo.Predicate

@[expose] public section

noncomputable section

namespace Cert.RowSwap

open Idealize.ShloMosaic
open Cert.ReferenceIdeal Cert.ReferenceIdeal.Gen

/-! ## Tables -/

/-- A table that says the two words is this one. -/
def tableOf (sw : Bool) : IVec S2 32 := fun i => if (i 0).val = 0 then word0 sw else word1 sw

/-- A table is known by its two words. -/
theorem eq_tableOf (sw : Bool) (t : IVec S2 32) (h : Says sw t) : t = tableOf sw := by
  funext i
  obtain ⟨h0, h1⟩ := h
  have hi : i = wordIdx (i 0) := funext fun a => by fin_cases a; rfl
  rw [hi]
  generalize i 0 = k
  have hk : k = (0 : Fin 2) ∨ k = (1 : Fin 2) := by
    match k with
    | ⟨0, _⟩ => exact Or.inl rfl
    | ⟨1, _⟩ => exact Or.inr rfl
  rcases hk with rfl | rfl
  · exact h0
  · exact h1

/-- The reference's start rows, from its table: the table sorted with its positions, a negative position wrapped. -/
def startRows (t : IVec S2 32) : IVec S2 32 :=
  let p := (Host.sort2 S2 0 comparator_i32_i32_d0 t (iotaInDim S2 32 0)).2
  select (cmpi .slt p (broadcastInDim S2 ![] bcast_S_S2 (constantI S_ 32 0#32)))
    (addi p (broadcastInDim S2 ![] bcast_S_S2 (constantI S_ 32 2#32))) p

/-- Each of the two tables is its own inverse: the start rows are the table. -/
theorem startRows_tableOf (sw : Bool) : startRows (tableOf sw) = tableOf sw := by
  cases sw <;> decide

/-- The reference's result, from its arguments. -/
def result {α : Type} (x : S2x2048x1024.Idx → α) (t : IVec S2 32) : S2x2048x1024.Idx → α :=
  Host.gather gather_S2x2048x1024_S2x1_S2x2048x1024_12_0_n_n_0_1_120481024 x (broadcastInDim S2x1 ![0] bcast_S2_S2x1_0 (startRows t))

/-- The dimension numbers of the gather. -/
abbrev gd : GatherDims S2x2048x1024 S2x1 S2x2048x1024 := gather_S2x2048x1024_S2x1_S2x2048x1024_12_0_n_n_0_1_120481024

/-- Where the gather reads: the row is the start row of the result's row, read signed and clamped into the two rows, -/
theorem reads_row (r : IVec S2 32) (j : S2x2048x1024.Idx) :
    (gd.operandIdx j (broadcastInDim S2x1 ![0] bcast_S2_S2x1_0 r) 0).val = min (r (wordIdx (j 0))).toInt.toNat 1 := by
  show gd.start j _ 0 + gd.batchCoord j 0 + gd.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ gd.startIndexMap from List.mem_singleton.mpr rfl)]
  refine congrArg (fun w : BitVec 32 => min w.toInt.toNat 1) ?_
  refine congrArg r (funext fun a => ?_)
  fin_cases a; rfl

/-- and the other two coordinates are the result's own. -/
theorem reads_inner (r : IVec S2 32) (j : S2x2048x1024.Idx) (a : Fin 3) (ha : a ≠ 0) :
    (gd.operandIdx j (broadcastInDim S2x1 ![0] bcast_S2_S2x1_0 r) a).val = (j a).val := by
  show gd.start j _ a + gd.batchCoord j a + gd.offCoord j a = _
  rw [GatherDims.batchCoord_eq_zero _ _ _ List.not_mem_nil]
  unfold GatherDims.start
  rw [dif_neg (show ¬ a ∈ gd.startIndexMap from fun h => ha (List.mem_singleton.mp h))]
  simp only [Nat.zero_add]
  match a, ha with
  | ⟨0, _⟩, h => exact absurd rfl h
  | ⟨1, _⟩, _ => rfl
  | ⟨2, _⟩, _ => rfl

/-! ## Blocks -/

/-- The column's block a device holds of an array of two: device `c` the block of its column. -/
abbrev blockOf {α : Type} (c : Dev Cert.KernelIdeal.nD) (v : S2x2048x1024.Idx → α) : Cert.KernelIdeal.S1x2048x1024.Idx → α :=
  Layout.blockN ⟨3, ![1, 2048, 1024]⟩ ⟨3, ![2, 2048, 1024]⟩ (Layout.meshBlock [2, 2] ![[1], [], []] c) v

/-- The start row of `c`'s column is the column of the device whose block belongs on `c`. -/
theorem row_of_origin (sw : Bool) (c : Dev Cert.KernelIdeal.nD) (k : Fin 2) (hk : k.val = Layout.meshLin [2, 2] c.val [1]) :
    min (tableOf sw (wordIdx k)).toInt.toNat 1 = Layout.meshLin [2, 2] (origin sw c).val [1] := by
  revert hk k c sw; decide

/-- The block of the reference's result on device `c` is the block of its argument on device `origin sw c`. -/
theorem blockOf_result {α : Type} (sw : Bool) (c : Dev Cert.KernelIdeal.nD) (x : S2x2048x1024.Idx → α) (t : IVec S2 32) (h : Says sw t) :
    blockOf c (result x t) = blockOf (origin sw c) x := by
  rw [eq_tableOf sw t h]
  funext i
  unfold blockOf result
  rw [startRows_tableOf, Layout.blockN_apply, Layout.blockN_apply]
  unfold Host.gather
  refine congrArg x (funext fun a => Fin.ext ?_)
  have h0 : (i 0).val = 0 := Nat.lt_one_iff.mp (i 0).isLt
  by_cases ha : a = (0 : Fin 3)
  · subst ha
    refine (reads_row _ _).trans ((row_of_origin sw c _ ?_).trans ?_)
    · show Layout.meshLin [2, 2] c.val [1] * 1 + (i 0).val = _
      rw [h0]; omega
    · show _ = Layout.meshLin [2, 2] (origin sw c).val [1] * 1 + (i 0).val
      rw [h0]; omega
  · refine (reads_inner _ _ a ha).trans ?_
    match a, ha with
    | ⟨0, _⟩, h => exact absurd rfl h
    | ⟨1, _⟩, _ => rfl
    | ⟨2, _⟩, _ => rfl

/-! ## The preconditions -/

variable {F : FTy → Type} [FloatOps F]

/-- Where the preconditions hold, the table's two words equal the two named. -/
theorem words_of_bits (u v a b : BitVec 32) (h : IntOp.andi (IntOp.cmpi .eq u a) (IntOp.cmpi .eq v b) = 1#1) : u = a ∧ v = b := by
  have hb : ∀ p q : BitVec 1, IntOp.andi p q = 1#1 → p = 1#1 ∧ q = 1#1 := by decide
  exact ⟨Idealize.ShloMosaic.StableHlo.Predicate.cmpi_eq_iff.mp (hb _ _ h).1, Idealize.ShloMosaic.StableHlo.Predicate.cmpi_eq_iff.mp (hb _ _ h).2⟩

/-- `pi_swaps` says that the table exchanges the columns, -/
theorem says_of_swaps (x : FVec F Cert.Pre_pi_swaps_Kernel.S1x2048x1024 .f32) (t : IVec S2 32)
    (h : Cert.Pre_pi_swaps_Kernel.fn x t = fun _ => 1#1) : Says true t := by
  have e := words_of_bits _ _ _ _ (congrFun h fun a => a.elim0)
  exact ⟨(congrArg t (funext fun a => by fin_cases a; rfl)).trans e.1, (congrArg t (funext fun a => by fin_cases a; rfl)).trans e.2⟩

/-- and `pi_keeps` that it keeps them. -/
theorem says_of_keeps (x : FVec F Cert.Pre_pi_keeps_Kernel.S1x2048x1024 .f32) (t : IVec S2 32)
    (h : Cert.Pre_pi_keeps_Kernel.fn x t = fun _ => 1#1) : Says false t := by
  have e := words_of_bits _ _ _ _ (congrFun h fun a => a.elim0)
  exact ⟨(congrArg t (funext fun a => by fin_cases a; rfl)).trans e.1, (congrArg t (funext fun a => by fin_cases a; rfl)).trans e.2⟩

end Cert.RowSwap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Pre_pi_swaps_Kernel
public import proofs.«01_k».proof.Proof.Gen.Pre_pi_keeps_Kernel
public import proofs.«01_k».proof.Proof.Gen.Pre_pi_swaps_ReferenceIdeal
public import proofs.«01_k».proof.Proof.Gen.Pre_pi_keeps_ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.RowSwap

/-! ## One text

The program at bit-exact floats and the one for exact floats are printed from the same text. -/

/-- The two programs' kernel tables are one, -/
theorem bodies_eq {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- and so are their tables of every label. -/
theorem defs_eq {F : FTy → Type} [FloatOps F] : Cert.Kernel.defs (F := F) = Cert.KernelIdeal.defs := congrArg (Pipeline.defs _) bodies_eq

/-- What a run of the one program establishes, a run of the other does. -/
theorem run_of_ideal {F : FTy → Type} [FloatOps F] (s : MemSt Cert.KernelIdeal.nD Cert.KernelIdeal.τ Cert.KernelIdeal.sig (Elt F))
    (Q : (PUnit × MemSt Cert.KernelIdeal.nD Cert.KernelIdeal.τ Cert.KernelIdeal.sig (Elt F)) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq]; exact h

/-! ## The frames -/

/-- The kernel at bit-exact floats, the table exchanging the columns: it ends, its arguments unchanged and its counters zero; -/
theorem frame_kernel_swaps : Cert.quiescent_Kernel := fun m ρ h =>
  run_of_ideal _ _ ((θ_run Cert.KernelIdeal.defs _ _).mono (fun _ hr => ⟨fun c => ⟨(hr.1 c).1, (hr.1 c).2.1⟩, hr.2⟩)
    (run_main (F := Bits) true m ρ fun c => says_of_swaps _ _ (h c)))

/-- the same, the table keeping them; -/
theorem frame_kernel_keeps : Cert.quiescent_Kernel_pre_pi_keeps_Kernel := fun m ρ h =>
  run_of_ideal _ _ ((θ_run Cert.KernelIdeal.defs _ _).mono (fun _ hr => ⟨fun c => ⟨(hr.1 c).1, (hr.1 c).2.1⟩, hr.2⟩)
    (run_main (F := Bits) false m ρ fun c => says_of_keeps _ _ (h c)))

/-- the kernel at exact floats, the table exchanging the columns; -/
theorem frame_ideal_swaps : Cert.quiescent_KernelIdeal := fun m ρ h =>
  (θ_run Cert.KernelIdeal.defs _ _).mono (fun _ hr => ⟨fun c => ⟨(hr.1 c).1, (hr.1 c).2.1⟩, hr.2⟩)
    (run_main (F := Ideal) true m ρ fun c => says_of_swaps _ _ (h c))

/-- and the table keeping them. -/
theorem frame_ideal_keeps : Cert.quiescent_KernelIdeal_pre_pi_keeps_Kernel := fun m ρ h =>
  (θ_run Cert.KernelIdeal.defs _ _).mono (fun _ hr => ⟨fun c => ⟨(hr.1 c).1, (hr.1 c).2.1⟩, hr.2⟩)
    (run_main (F := Ideal) false m ρ fun c => says_of_keeps _ _ (h c))

/-- The reference, at any floats and any table: it ends, its arguments unchanged, and it has no counter. -/
theorem frame_reference {F : FTy → Type} [FloatOps F]
    (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := F) m ρ)

/-! ## The values -/

/-- A run of the kernel from blocks of the reference's argument and its table ends with the blocks of the reference's result. -/
theorem kernel_value {F : FTy → Type} [FloatOps F] (sw : Bool)
    (m : (ℓ : Loc Cert.KernelIdeal.nD Cert.KernelIdeal.τ Cert.KernelIdeal.sig) → Buf (Elt F) ℓ) (ρ : Dev Cert.KernelIdeal.nD → PrngReg)
    (x : Cert.ReferenceIdeal.S2x2048x1024.Idx → F .f32) (t : IVec Cert.ReferenceIdeal.S2 32)
    (hs : ∀ c, Says sw (table m c)) (hx : ∀ c, block m c = blockOf c x) (ht : ∀ c, table m c = t) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v1) = blockOf c (result x t)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun _ hr c => ⟨((hr.1 c).2.2.trans (hx (origin sw c))).trans (blockOf_result sw c x t (ht c ▸ hs c)).symm, (hr.1 c).1, (hr.1 c).2.1⟩)
    (run_main (F := F) sw m ρ hs)

/-- In exact arithmetic, the table exchanging the columns, every device ends with its block of the reference's result; -/
theorem algebraic_swaps : Cert.algebraic_KernelIdeal_ReferenceIdeal := fun m ρ m' ρ' h ha =>
  ⟨_, kernel_value (F := Ideal) true m ρ _ _ (fun c => says_of_swaps _ _ (h c)) (fun c => (ha c).1) (fun c => (ha c).2),
    (θ_run Cert.ReferenceIdeal.defs _ _).mono (fun _ hr => hr 0) (Cert.ReferenceIdeal.Value.run (F := Ideal) m' ρ')⟩

/-- the same, the table keeping them; -/
theorem algebraic_keeps : Cert.algebraic_KernelIdeal_ReferenceIdeal_pre_pi_keeps_Kernel := fun m ρ m' ρ' h ha =>
  ⟨_, kernel_value (F := Ideal) false m ρ _ _ (fun c => says_of_keeps _ _ (h c)) (fun c => (ha c).1) (fun c => (ha c).2),
    (θ_run Cert.ReferenceIdeal.defs _ _).mono (fun _ hr => hr 0) (Cert.ReferenceIdeal.Value.run (F := Ideal) m' ρ')⟩

/-- bit for bit, the table exchanging the columns; -/
theorem bitexact_swaps : Cert.bitexact_Kernel_Reference := fun m ρ m' ρ' h ha =>
  ⟨_, run_of_ideal _ _ (kernel_value (F := Bits) true m ρ _ _ (fun c => says_of_swaps _ _ (h c)) (fun c => (ha c).1) (fun c => (ha c).2)),
    (θ_run Cert.ReferenceIdeal.defs _ _).mono (fun _ hr => hr 0) (Cert.ReferenceIdeal.Value.run (F := Bits) m' ρ')⟩

/-- and the table keeping them. -/
theorem bitexact_keeps : Cert.bitexact_Kernel_Reference_pre_pi_keeps_Kernel := fun m ρ m' ρ' h ha =>
  ⟨_, run_of_ideal _ _ (kernel_value (F := Bits) false m ρ _ _ (fun c => says_of_keeps _ _ (h c)) (fun c => (ha c).1) (fun c => (ha c).2)),
    (θ_run Cert.ReferenceIdeal.defs _ _).mono (fun _ hr => hr 0) (Cert.ReferenceIdeal.Value.run (F := Bits) m' ρ')⟩

/-- The certificate's claim: the facts of every program, the frames, and the values under both tables. -/
theorem claim : Cert.Claim :=
  ⟨Cert.Kernel.Gen.facts, Cert.KernelIdeal.Gen.facts, Cert.ReferenceIdeal.Gen.facts, Cert.Reference.Gen.facts,
    Cert.Pre_pi_swaps_Kernel.Gen.facts, Cert.Pre_pi_keeps_Kernel.Gen.facts,
    Cert.Pre_pi_swaps_ReferenceIdeal.Gen.facts, Cert.Pre_pi_keeps_ReferenceIdeal.Gen.facts,
    frame_kernel_swaps, frame_kernel_keeps, frame_ideal_swaps, frame_ideal_keeps,
    fun m ρ _ => frame_reference (F := Ideal) m ρ, fun m ρ _ => frame_reference (F := Ideal) m ρ, fun m ρ _ => frame_reference (F := Ideal) m ρ,
    fun m ρ _ => frame_reference (F := Bits) m ρ, fun m ρ _ => frame_reference (F := Bits) m ρ,
    trivial, algebraic_swaps, algebraic_keeps, bitexact_swaps, bitexact_keeps⟩

end Cert.Proof

end
